-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S1 : Shape := ⟨1, ![1]⟩
abbrev S_ : Shape := ⟨0, ![]⟩
abbrev S10000x128 : Shape := ⟨2, ![10000, 128]⟩
abbrev S10000x10000 : Shape := ⟨2, ![10000, 10000]⟩
abbrev S256 : Shape := ⟨1, ![256]⟩
abbrev S1x256 : Shape := ⟨2, ![1, 256]⟩
abbrev S1x1 : Shape := ⟨2, ![1, 1]⟩
abbrev S400x10000 : Shape := ⟨2, ![400, 10000]⟩
abbrev S400x128 : Shape := ⟨2, ![400, 128]⟩
abbrev S10000x256 : Shape := ⟨2, ![10000, 256]⟩
abbrev S400x256 : Shape := ⟨2, ![400, 256]⟩

abbrev nBuf : Space → Nat
  | .hbm => 17
  | .vmem => 12
  | .smem => 0
  | _ => 0

abbrev bufTy : (tb : Table) → Fin (tcTables nBuf tb) → BufTy
  | .hbm, ⟨0, _⟩ => ⟨S1x10000x128, .f32⟩
  | .hbm, ⟨1, _⟩ => ⟨S1x10000x128, .f32⟩
  | .hbm, ⟨2, _⟩ => ⟨S1x10000x10000, .f32⟩
  | .hbm, ⟨3, _⟩ => ⟨S128x128, .f32⟩
  | .hbm, ⟨4, _⟩ => ⟨S128, .f32⟩
  | .hbm, ⟨5, _⟩ => ⟨S1, .f32⟩
  | .hbm, ⟨6, _⟩ => ⟨S_, .i32⟩
  | .hbm, ⟨7, _⟩ => ⟨S10000x128, .f32⟩
  | .hbm, ⟨8, _⟩ => ⟨S10000x128, .f32⟩
  | .hbm, ⟨9, _⟩ => ⟨S10000x10000, .f32⟩
  | .hbm, ⟨10, _⟩ => ⟨S256, .f32⟩
  | .hbm, ⟨11, _⟩ => ⟨S1x256, .f32⟩
  | .hbm, ⟨12, _⟩ => ⟨S1x1, .f32⟩
  | .hbm, ⟨13, _⟩ => ⟨S10000x128, .f32⟩
  | .hbm, ⟨14, _⟩ => ⟨S10000x128, .f32⟩
  | .hbm, ⟨15, _⟩ => ⟨S1x10000x128, .f32⟩
  | .hbm, ⟨16, _⟩ => ⟨S1x10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S1x256, .f32⟩
  | .local _ .vmem, ⟨6, _⟩ => ⟨S1x1, .f32⟩
  | .local _ .vmem, ⟨7, _⟩ => ⟨S400x128, .f32⟩
  | .local _ .vmem, ⟨8, _⟩ => ⟨S400x128, .f32⟩
  | .local _ .vmem, ⟨9, _⟩ => ⟨S400x128, .f32⟩
  | .local _ .vmem, ⟨10, _⟩ => ⟨S400x128, .f32⟩
  | .local _ .vmem, ⟨11, _⟩ => ⟨S10000x256, .bf16⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S400x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S1 : Shape := ⟨1, ![1]⟩
abbrev S_ : Shape := ⟨0, ![]⟩
abbrev S1x1x128 : Shape := ⟨3, ![1, 1, 128]⟩
abbrev S1x1x1 : Shape := ⟨3, ![1, 1, 1]⟩
abbrev S10000x128 : Shape := ⟨2, ![10000, 128]⟩

abbrev nBuf : Space → Nat
  | .hbm => 41
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S1x10000x128, .f32⟩
  | .hbm, ⟨2, _⟩ => ⟨S1x10000x10000, .f32⟩
  | .hbm, ⟨3, _⟩ => ⟨S128x128, .f32⟩
  | .hbm, ⟨4, _⟩ => ⟨S128, .f32⟩
  | .hbm, ⟨5, _⟩ => ⟨S1, .f32⟩
  | .hbm, ⟨6, _⟩ => ⟨S_, .i32⟩
  | .hbm, ⟨7, _⟩ => ⟨S1x10000x128, .f32⟩
  | .hbm, ⟨8, _⟩ => ⟨S1x10000x128, .f32⟩
  | .hbm, ⟨9, _⟩ => ⟨S1x1x128, .f32⟩
  | .hbm, ⟨10, _⟩ => ⟨S1x10000x128, .f32⟩
  | .hbm, ⟨11, _⟩ => ⟨S1x10000x128, .f32⟩
  | .hbm, ⟨12, _⟩ => ⟨S_, .f32⟩
  | .hbm, ⟨13, _⟩ => ⟨S1x10000x128, .f32⟩
  | .hbm, ⟨14, _⟩ => ⟨S1x10000x128, .i1⟩
  | .hbm, ⟨15, _⟩ => ⟨S1x1x1, .f32⟩
  | .hbm, ⟨16, _⟩ => ⟨S1x10000x128, .f32⟩
  | .hbm, ⟨17, _⟩ => ⟨S1x10000x128, .f32⟩
  | .hbm, ⟨18, _⟩ => ⟨S1x10000x128, .f32⟩
  | .hbm, ⟨19, _⟩ => ⟨S1x10000x128, .f32⟩
  | .hbm, ⟨20, _⟩ => ⟨S1x10000x128, .f32⟩
  | .hbm, ⟨21, _⟩ => ⟨S1x1x128, .f32⟩
  | .hbm, ⟨22, _⟩ => ⟨S1x10000x128, .f32⟩
  | .hbm, ⟨23, _⟩ => ⟨S1x10000x128, .f32⟩
  | .hbm, ⟨24, _⟩ => ⟨S_, .f32⟩
  | .hbm, ⟨25, _⟩ => ⟨S1x10000x128, .f32⟩
  | .hbm, ⟨26, _⟩ => ⟨S1x10000x128, .i1⟩
  | .hbm, ⟨27, _⟩ => ⟨S1x1x1, .f32⟩
  | .hbm, ⟨28, _⟩ => ⟨S1x10000x128, .f32⟩
  | .hbm, ⟨29, _⟩ => ⟨S1x10000x128, .f32⟩
  | .hbm, ⟨30, _⟩ => ⟨S1x10000x128, .f32⟩
  | .hbm, ⟨31, _⟩ => ⟨S10000x128, .f32⟩
  | .hbm, ⟨32, _⟩ => ⟨S_, .f32⟩
  | .hbm, ⟨33, _⟩ => ⟨S10000x128, .f32⟩
  | .hbm, ⟨34, _⟩ => ⟨S10000x128, .f32⟩
  | .hbm, ⟨35, _⟩ => ⟨S1x10000x128, .f32⟩
  | .hbm, ⟨36, _⟩ => ⟨S10000x128, .f32⟩
  | .hbm, ⟨37, _⟩ => ⟨S_, .f32⟩
  | .hbm, ⟨38, _⟩ => ⟨S10000x128, .f32⟩
  | .hbm, ⟨39, _⟩ => ⟨S10000x128, .f32⟩
  | .hbm, ⟨40, _⟩ => ⟨S1x10000x128, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call2_cst : Ref sig .tc := ⟨.hbm, 32, rfl⟩
abbrev main_call2_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call3_cst : Ref sig .tc := ⟨.hbm, 37, rfl⟩
abbrev main_call3_v0 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Proof.Spec.lean ====
/-
  The layer both programs are shown to compute, over the extended reals: a dense product with the weights, an
  aggregation with the diffusion matrix, a bias, the parametric rectifier, and a rectifier.
-/
module

public import Idealize.ShloMosaic.Lib.Pointwise

@[expose] public section

noncomputable section

open Idealize.ShloMosaic

namespace Cert.Gcn

/-- The activation: the parametric rectifier of slope `a`, then the maximum with zero. -/
def act (a z : EReal) : EReal := max (if 0 ≤ z then z else a * z) 0

/-- Entry `(n, h)` of the layer: the activation of `∑ₘ adj(n, m) · (∑ₖ x(m, k) · w(h, k)) + b(h)`. -/
def layer (x : FVec Ideal (⟨3, ![1, 10000, 128]⟩ : Shape) .f32) (adj : FVec Ideal (⟨3, ![1, 10000, 10000]⟩ : Shape) .f32)
    (w : FVec Ideal (⟨2, ![128, 128]⟩ : Shape) .f32) (b : FVec Ideal (⟨1, ![128]⟩ : Shape) .f32)
    (a : FVec Ideal (⟨1, ![1]⟩ : Shape) .f32) (n : Fin 10000) (h : Fin 128) : EReal :=
  act (a (ix1 0)) ((∑ m : Fin 10000, adj (ix3 0 n m) * ∑ k : Fin 128, x (ix3 0 m k) * w (ix2 h k)) + b (ix1 h))

/-- The layer as an array with its leading axis of extent one. -/
def layerArr (x : FVec Ideal (⟨3, ![1, 10000, 128]⟩ : Shape) .f32) (adj : FVec Ideal (⟨3, ![1, 10000, 10000]⟩ : Shape) .f32)
    (w : FVec Ideal (⟨2, ![128, 128]⟩ : Shape) .f32) (b : FVec Ideal (⟨1, ![128]⟩ : Shape) .f32)
    (a : FVec Ideal (⟨1, ![1]⟩ : Shape) .f32) : FVec Ideal (⟨3, ![1, 10000, 128]⟩ : Shape) .f32 :=
  fun i => layer x adj w b a (i 1) (i 2)

end Cert.Gcn

end
-- ==== Proof.RefValue.lean ====
/-
  What the reference's two results hold: the layer of the second sequence, and the layer of the first.
-/
module

public import proofs.«01_k».proof.Proof.Spec
public import proofs.«01_k».proof.Proof.Gen.ReferenceIdeal.Run

@[expose] public section

noncomputable section

open Idealize.ShloMosaic Idealize.ShloMosaic.TcCoe Idealize.SL.Sem

namespace Cert.Gcn

open Cert.ReferenceIdeal Cert.ReferenceIdeal.Gen

/-- The reference's dense product, aggregation and bias of one sequence. -/
def refPre (x : FVec Ideal S1x10000x128 .f32) (adj : FVec Ideal S1x10000x10000 .f32) (w : FVec Ideal S128x128 .f32)
    (b : FVec Ideal S128 .f32) : FVec Ideal S1x10000x128 .f32 :=
  addf (Host.dotGeneral dot_S1x10000x10000_S1x10000x128_S1x10000x128_2_1_1_2_0_0 none adj
      (Host.dotGeneral dot_S1x10000x128_S128x128_S1x10000x128_2_1_01_0_n_n none x w))
    (broadcastInDim S1x10000x128 ![0, 1, 2] bcast_S1x1x128_S1x10000x128_0_1_2
      (broadcastInDim S1x1x128 ![2] bcast_S128_S1x1x128_2 b))

/-- The reference's result of one sequence, in its own operations: the parametric rectifier of `refPre`, the leading axis
    dropped, the maximum with zero, the leading axis put back. -/
def refOut (x : FVec Ideal S1x10000x128 .f32) (adj : FVec Ideal S1x10000x10000 .f32) (w : FVec Ideal S128x128 .f32)
    (b : FVec Ideal S128 .f32) (a : FVec Ideal S1 .f32) : FVec Ideal S1x10000x128 .f32 :=
  broadcastInDim S1x10000x128 ![1, 2] bcast_S10000x128_S1x10000x128_1_2
    (maximumf
      (shapeCast S10000x128
        (select (cmpf .oge (refPre x adj w b) (broadcastInDim S1x10000x128 ![] bcast_S_S1x10000x128 (constant S_ .f32 0x00000000#32)))
          (refPre x adj w b)
          (mulf (broadcastInDim S1x10000x128 ![0, 1, 2] bcast_S1x1x1_S1x10000x128_0_1_2
            (broadcastInDim S1x1x1 ![2] bcast_S1_S1x1x1_2 a)) (refPre x adj w b)))
        shapeCasts_S1x10000x128_S10000x128)
      (broadcastInDim S10000x128 ![] bcast_S_S10000x128 (constant S_ .f32 0x00000000#32)))

/-- The reference's result of one sequence is the layer of it. -/
theorem refOut_eq (x : FVec Ideal S1x10000x128 .f32) (adj : FVec Ideal S1x10000x10000 .f32) (w : FVec Ideal S128x128 .f32)
    (b : FVec Ideal S128 .f32) (a : FVec Ideal S1 .f32) : refOut x adj w b a = layerArr x adj w b a := by
  funext i
  obtain ⟨n, h, rfl⟩ : ∃ (n : Fin 10000) (h : Fin 128), i = ix3 (0 : Fin 1) n h :=
    ⟨i 1, i 2, (eq_ix3 i).trans (congrArg (fun q => ix3 q (i 1) (i 2)) (Subsingleton.elim _ _))⟩
  pointwise [refOut, refPre, layerArr, layer, act]

variable (m : (ℓ : Loc nD τ sig) → Buf (Elt Ideal) ℓ) (ρ : Dev nD → PrngReg)

/-- The reference runs, its first result the layer of the second sequence, its second result the layer of the first, and
    its arguments are unchanged. -/
theorem ref_run : θ_run defs (onTc (τ := τ) (main (F := Ideal))) ⟨m, fun _ => 0, ρ⟩ fun r => ∀ c : Dev nD,
      r.2.mem ((c.tc : Thread nD τ).loc main_v24)
        = layerArr (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_v27)
        = layerArr (m ((c.tc : Thread nD τ).loc main_arg0)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
      ⟨(show r.2.mem ((c.tc : Thread nD τ).loc main_v24) = refOut _ _ _ _ _ from (h c).1).trans (refOut_eq ..),
       (show r.2.mem ((c.tc : Thread nD τ).loc main_v27) = refOut _ _ _ _ _ from (h c).2.1).trans (refOut_eq ..), (h c).2.2⟩)
    (Cert.ReferenceIdeal.Value.run m ρ)

end Cert.Gcn

end
-- ==== Proof.Stage.lean ====
/-
  What one grid point of the kernel leaves behind, as a function of the blocks it reads.

  The body has two cases. At the first point (case A) it fills the carried scratch with the feature matrix — the two
  products `seq₂ · Wᵀ` and `seq₁ · Wᵀ` side by side — and then reads it back; at every other point (case B) it reads the
  scratch as the point before left it. In both cases the two output blocks are the same two expressions of the block
  of `diff`, the scratch, the bias row and the slope.
-/
module

public import proofs.«01_k».proof.Proof.Gen.KernelIdeal.Frame
public import Idealize.ShloMosaic.Lib.Pipeline.Value
public import Idealize.ShloMosaic.Lib.Pointwise
public import Idealize.ShloMosaic.Lib.Tactic

@[expose] public section

noncomputable section

open Idealize.ShloMosaic Idealize.ShloMosaic.TcCoe Idealize.SL.Sem

namespace Cert.Gcn

open Cert.KernelIdeal Cert.KernelIdeal.Gen

variable {F : FTy → Type} [FloatOps F]

/-- Offsets written as two zeros are zero on every axis. -/
theorem zeros2 : (![0, 0] : Fin 2 → Nat) = fun _ => 0 := funext fun a => by fin_cases a <;> rfl

/-- The feature matrix: columns below 128 are the product of the second sequence with the weights, the columns from
    128 on are the product of the first sequence with the weights. -/
def feats (s1 s2 : Vec F S10000x128 .f32) (w : Vec F S128x128 .f32) : Vec F S10000x256 .bf16 := fun i =>
  if h : (i 1).val < 128 then k0_pay2 w s2 (ix2 (n0 := 10000) (n1 := 128) (i 0) ⟨(i 1).val, h⟩)
  else k0_pay3 w s1 (ix2 (n0 := 10000) (n1 := 128) (i 0) ⟨(i 1).val - 128, by have : (i 1).val < 256 := (i 1).isLt; omega⟩)

/-- The two column halves, written one over the other, leave the feature matrix, whichever index is read. -/
theorem canon_halves (s1 s2 : Vec F S10000x128 .f32) (w : Vec F S128x128 .f32)
    (hl : ∀ a, (![0, 0] : Fin 2 → Nat) a + S10000x128.size a ≤ S10000x256.size a)
    (hr : ∀ a, (![0, 128] : Fin 2 → Nat) a + S10000x128.size a ≤ S10000x256.size a) :
    View.canon (Val := Elt F) (s := S10000x256) (e := .bf16)
      [⟨Rect.unit (s := S10000x256) ![0, 128] S10000x128.size hr, k0_pay3 w s1⟩,
       ⟨Rect.unit (s := S10000x256) ![0, 0] S10000x128.size hl, k0_pay2 w s2⟩] = feats s1 s2 w := by
  funext y
  refine View.canon_apply_of_pieces (feats s1 s2 w) _ ?_ y ?_
  · intro p hp
    simp only [List.mem_cons, List.not_mem_nil, or_false] at hp
    rcases hp with rfl | rfl
    · intro x
      have e0 : ((Rect.unit (s := S10000x256) ![0, 128] S10000x128.size hr).emb x 0).val = (x 0).val := by
        show 0 + 1 * (x 0).val = _; omega
      have e1 : ((Rect.unit (s := S10000x256) ![0, 128] S10000x128.size hr).emb x 1).val = 128 + (x 1).val := by
        show 128 + 1 * (x 1).val = _; omega
      have n1 : ¬((Rect.unit (s := S10000x256) ![0, 128] S10000x128.size hr).emb x 1).val < 128 := by rw [e1]; omega
      refine Eq.trans ?_ (dif_neg n1).symm
      refine congrArg (k0_pay3 w s1) (funext fun a => ?_)
      apply Fin.ext
      match a with
      | ⟨0, _⟩ => exact e0.symm
      | ⟨1, _⟩ => show (x 1).val = ((Rect.unit (s := S10000x256) ![0, 128] S10000x128.size hr).emb x 1).val - 128; rw [e1]; omega
    · intro x
      have e0 : ((Rect.unit (s := S10000x256) ![0, 0] S10000x128.size hl).emb x 0).val = (x 0).val := by
        show 0 + 1 * (x 0).val = _; omega
      have e1 : ((Rect.unit (s := S10000x256) ![0, 0] S10000x128.size hl).emb x 1).val = (x 1).val := by
        show 0 + 1 * (x 1).val = _; omega
      have hx : (x 1).val < 128 := (x 1).isLt
      have n1 : ((Rect.unit (s := S10000x256) ![0, 0] S10000x128.size hl).emb x 1).val < 128 := by rw [e1]; exact hx
      refine Eq.trans ?_ (dif_pos n1).symm
      refine congrArg (k0_pay2 w s2) (funext fun a => ?_)
      apply Fin.ext
      match a with
      | ⟨0, _⟩ => exact e0.symm
      | ⟨1, _⟩ => exact e1.symm
  · have h0 : (y 0).val < 10000 := (y 0).isLt
    have h1 : (y 1).val < 256 := (y 1).isLt
    by_cases h : (y 1).val < 128
    · refine ⟨_, List.mem_cons_of_mem _ (List.mem_singleton_self _), ?_⟩
      rw [Rect.mem_set_unit]
      intro a
      match a with
      | ⟨0, _⟩ => exact ⟨Nat.zero_le _, by show (y 0).val < 0 + 10000; omega⟩
      | ⟨1, _⟩ => exact ⟨Nat.zero_le _, by show (y 1).val < 0 + 128; omega⟩
    · refine ⟨_, List.mem_cons_self, ?_⟩
      rw [Rect.mem_set_unit]
      intro a
      match a with
      | ⟨0, _⟩ => exact ⟨Nat.zero_le _, by show (y 0).val < 0 + 10000; omega⟩
      | ⟨1, _⟩ => exact ⟨by show 128 ≤ (y 1).val; omega, by show (y 1).val < 128 + 128; omega⟩

/-- So a load of the whole scratch after the two stores reads the feature matrix. -/
theorem readCov_halves {κ : Kind} {sp : Space} (v : View sig κ sp S10000x256 .bf16)
    (s1 s2 : Vec F S10000x128 .f32) (w : Vec F S128x128 .f32)
    (hl : ∀ a, (![0, 0] : Fin 2 → Nat) a + S10000x128.size a ≤ S10000x256.size a)
    (hr : ∀ a, (![0, 128] : Fin 2 → Nat) a + S10000x128.size a ≤ S10000x256.size a)
    (h0 : ∀ a, (![0, 0] : Fin 2 → Nat) a + S10000x256.size a ≤ S10000x256.size a) :
    v.readCov (Val := Elt F)
      [⟨Rect.unit (s := S10000x256) ![0, 128] S10000x128.size hr, k0_pay3 w s1⟩,
       ⟨Rect.unit (s := S10000x256) ![0, 0] S10000x128.size hl, k0_pay2 w s2⟩]
      (Rect.unit (s := S10000x256) ![0, 0] S10000x256.size h0).toLoadRect = feats s1 s2 w := by
  rw [View.readCov_eq_canon', canon_halves]
  exact View.ld_unit_zero (S := S10000x256) zeros2 h0 (feats s1 s2 w)

/-- Case A leaves the feature matrix in the scratch. -/
theorem scratch_A (c : Dev nD) (i : grid0.Coords) (a1 : Memref sig .tc .vmem S400x10000 .f32) (h1 : a1.IsWhole)
    (a2 : Memref sig .tc .vmem S10000x128 .f32) (h2 : a2.IsWhole) (a3 : Memref sig .tc .vmem S10000x128 .f32) (h3 : a3.IsWhole)
    (a4 : Memref sig .tc .vmem S128x128 .f32) (h4 : a4.IsWhole) (a5 : Memref sig .tc .vmem S1x256 .f32) (h5 : a5.IsWhole)
    (a6 : Memref sig .tc .vmem S1x1 .f32) (h6 : a6.IsWhole) (a7 : Memref sig .tc .vmem S400x128 .f32) (h7 : a7.IsWhole)
    (a8 : Memref sig .tc .vmem S400x128 .f32) (h8 : a8.IsWhole) (a9 : Memref sig .tc .vmem S10000x256 .bf16) (h9 : a9.IsWhole)
    (hc : cond0_0 i) (d : Vec F S400x10000 .f32) (s1 s2 : Vec F S10000x128 .f32) (w : Vec F S128x128 .f32)
    (b : Vec F S1x256 .f32) (p : Vec F S1x1 .f32) :
    sout0_A_0 c i a1 h1 a2 h2 a3 h3 a4 h4 a5 h5 a6 h6 a7 h7 a8 h8 a9 h9 hc d s1 s2 w b p = feats s1 s2 w := by
  unfold sout0_A_0
  rw [View.read_writes_junk_eq_canon]
  unfold kernelRun0_A
  dsimp only
  sl_unfold_words
  simp only [View.readAt_eq_ld, h2.read_unread, h3.read_unread, h4.read_unread, View.ld_unit_zero (S := S10000x128) zeros2,
    View.ld_unit_zero (S := S128x128) zeros2]
  exact canon_halves s1 s2 w _ _

/-- Case A leaves in the first output block the first column half of what it computes from the feature matrix. -/
theorem block6_A (c : Dev nD) (i : grid0.Coords) (a1 : Memref sig .tc .vmem S400x10000 .f32) (h1 : a1.IsWhole)
    (a2 : Memref sig .tc .vmem S10000x128 .f32) (h2 : a2.IsWhole) (a3 : Memref sig .tc .vmem S10000x128 .f32) (h3 : a3.IsWhole)
    (a4 : Memref sig .tc .vmem S128x128 .f32) (h4 : a4.IsWhole) (a5 : Memref sig .tc .vmem S1x256 .f32) (h5 : a5.IsWhole)
    (a6 : Memref sig .tc .vmem S1x1 .f32) (h6 : a6.IsWhole) (a7 : Memref sig .tc .vmem S400x128 .f32) (h7 : a7.IsWhole)
    (a8 : Memref sig .tc .vmem S400x128 .f32) (h8 : a8.IsWhole) (a9 : Memref sig .tc .vmem S10000x256 .bf16) (h9 : a9.IsWhole)
    (hc : cond0_0 i) (d : Vec F S400x10000 .f32) (s1 s2 : Vec F S10000x128 .f32) (w : Vec F S128x128 .f32)
    (b : Vec F S1x256 .f32) (p : Vec F S1x1 .f32) :
    out0_A_6 c i a1 h1 a2 h2 a3 h3 a4 h4 a5 h5 a6 h6 a7 h7 a8 h8 a9 h9 hc d s1 s2 w b p = k0_pay5 d (feats s1 s2 w) b p := by
  unfold out0_A_6
  rw [View.read_writes_junk_eq_canon]
  unfold kernelRun0_A
  dsimp only
  sl_unfold_words
  rw [View.canon_unit_zero zeros2]
  simp only [View.readAt_eq_ld, h1.read_unread, h2.read_unread, h3.read_unread, h4.read_unread, h5.read_unread, h6.read_unread,
    View.ld_unit_zero (S := S10000x128) zeros2, View.ld_unit_zero (S := S128x128) zeros2,
    View.ld_unit_zero (S := S400x10000) zeros2, View.ld_unit_zero (S := S1x256) zeros2, View.ld_unit_zero (S := S1x1) zeros2]
  exact congrArg (fun f => k0_pay5 d f b p) (readCov_halves a9.view s1 s2 w _ _ _)

/-- Case A leaves in the second output block the second column half of what it computes from the feature matrix. -/
theorem block7_A (c : Dev nD) (i : grid0.Coords) (a1 : Memref sig .tc .vmem S400x10000 .f32) (h1 : a1.IsWhole)
    (a2 : Memref sig .tc .vmem S10000x128 .f32) (h2 : a2.IsWhole) (a3 : Memref sig .tc .vmem S10000x128 .f32) (h3 : a3.IsWhole)
    (a4 : Memref sig .tc .vmem S128x128 .f32) (h4 : a4.IsWhole) (a5 : Memref sig .tc .vmem S1x256 .f32) (h5 : a5.IsWhole)
    (a6 : Memref sig .tc .vmem S1x1 .f32) (h6 : a6.IsWhole) (a7 : Memref sig .tc .vmem S400x128 .f32) (h7 : a7.IsWhole)
    (a8 : Memref sig .tc .vmem S400x128 .f32) (h8 : a8.IsWhole) (a9 : Memref sig .tc .vmem S10000x256 .bf16) (h9 : a9.IsWhole)
    (hc : cond0_0 i) (d : Vec F S400x10000 .f32) (s1 s2 : Vec F S10000x128 .f32) (w : Vec F S128x128 .f32)
    (b : Vec F S1x256 .f32) (p : Vec F S1x1 .f32) :
    out0_A_7 c i a1 h1 a2 h2 a3 h3 a4 h4 a5 h5 a6 h6 a7 h7 a8 h8 a9 h9 hc d s1 s2 w b p = k0_pay6 d (feats s1 s2 w) b p := by
  unfold out0_A_7
  rw [View.read_writes_junk_eq_canon]
  unfold kernelRun0_A
  dsimp only
  sl_unfold_words
  rw [View.canon_unit_zero zeros2]
  simp only [View.readAt_eq_ld, h1.read_unread, h2.read_unread, h3.read_unread, h4.read_unread, h5.read_unread, h6.read_unread,
    View.ld_unit_zero (S := S10000x128) zeros2, View.ld_unit_zero (S := S128x128) zeros2,
    View.ld_unit_zero (S := S400x10000) zeros2, View.ld_unit_zero (S := S1x256) zeros2, View.ld_unit_zero (S := S1x1) zeros2]
  exact congrArg (fun f => k0_pay6 d f b p) (readCov_halves a9.view s1 s2 w _ _ _)

/-- Case B leaves in the first output block the first column half of what it computes from the scratch it finds. -/
theorem block6_B (c : Dev nD) (i : grid0.Coords) (a1 : Memref sig .tc .vmem S400x10000 .f32) (h1 : a1.IsWhole)
    (a2 : Memref sig .tc .vmem S10000x128 .f32) (h2 : a2.IsWhole) (a3 : Memref sig .tc .vmem S10000x128 .f32) (h3 : a3.IsWhole)
    (a4 : Memref sig .tc .vmem S128x128 .f32) (h4 : a4.IsWhole) (a5 : Memref sig .tc .vmem S1x256 .f32) (h5 : a5.IsWhole)
    (a6 : Memref sig .tc .vmem S1x1 .f32) (h6 : a6.IsWhole) (a7 : Memref sig .tc .vmem S400x128 .f32) (h7 : a7.IsWhole)
    (a8 : Memref sig .tc .vmem S400x128 .f32) (h8 : a8.IsWhole) (a9 : Memref sig .tc .vmem S10000x256 .bf16) (h9 : a9.IsWhole)
    (hc : ¬cond0_0 i) (d : Vec F S400x10000 .f32) (s1 s2 : Vec F S10000x128 .f32) (w : Vec F S128x128 .f32)
    (b : Vec F S1x256 .f32) (p : Vec F S1x1 .f32) (f : Vec F S10000x256 .bf16) :
    out0_B_6 c i a1 h1 a2 h2 a3 h3 a4 h4 a5 h5 a6 h6 a7 h7 a8 h8 a9 h9 hc d s1 s2 w b p f = k0_pay5 d f b p := by
  unfold out0_B_6
  rw [View.read_writes_junk_eq_canon]
  unfold kernelRun0_B
  dsimp only
  rw [View.canon_unit_zero zeros2]
  simp only [View.readAt_eq_ld, h1.read_unread, h5.read_unread, h6.read_unread, h9.read_unread,
    View.ld_unit_zero (S := S400x10000) zeros2, View.ld_unit_zero (S := S1x256) zeros2, View.ld_unit_zero (S := S1x1) zeros2,
    View.ld_unit_zero (S := S10000x256) zeros2]

/-- Case B leaves in the second output block the second column half of what it computes from the scratch it finds. -/
theorem block7_B (c : Dev nD) (i : grid0.Coords) (a1 : Memref sig .tc .vmem S400x10000 .f32) (h1 : a1.IsWhole)
    (a2 : Memref sig .tc .vmem S10000x128 .f32) (h2 : a2.IsWhole) (a3 : Memref sig .tc .vmem S10000x128 .f32) (h3 : a3.IsWhole)
    (a4 : Memref sig .tc .vmem S128x128 .f32) (h4 : a4.IsWhole) (a5 : Memref sig .tc .vmem S1x256 .f32) (h5 : a5.IsWhole)
    (a6 : Memref sig .tc .vmem S1x1 .f32) (h6 : a6.IsWhole) (a7 : Memref sig .tc .vmem S400x128 .f32) (h7 : a7.IsWhole)
    (a8 : Memref sig .tc .vmem S400x128 .f32) (h8 : a8.IsWhole) (a9 : Memref sig .tc .vmem S10000x256 .bf16) (h9 : a9.IsWhole)
    (hc : ¬cond0_0 i) (d : Vec F S400x10000 .f32) (s1 s2 : Vec F S10000x128 .f32) (w : Vec F S128x128 .f32)
    (b : Vec F S1x256 .f32) (p : Vec F S1x1 .f32) (f : Vec F S10000x256 .bf16) :
    out0_B_7 c i a1 h1 a2 h2 a3 h3 a4 h4 a5 h5 a6 h6 a7 h7 a8 h8 a9 h9 hc d s1 s2 w b p f = k0_pay6 d f b p := by
  unfold out0_B_7
  rw [View.read_writes_junk_eq_canon]
  unfold kernelRun0_B
  dsimp only
  rw [View.canon_unit_zero zeros2]
  simp only [View.readAt_eq_ld, h1.read_unread, h5.read_unread, h6.read_unread, h9.read_unread,
    View.ld_unit_zero (S := S400x10000) zeros2, View.ld_unit_zero (S := S1x256) zeros2, View.ld_unit_zero (S := S1x1) zeros2,
    View.ld_unit_zero (S := S10000x256) zeros2]

end Cert.Gcn

end
-- ==== Proof.Values.lean ====
/-
  What the body's expressions are at one entry, over the extended reals: the feature matrix is two dense products, and
  an entry of an output block is the activation of a row of `diff` against a column of the feature matrix plus the bias.
-/
module

public import proofs.«01_k».proof.Proof.Spec
public import proofs.«01_k».proof.Proof.Stage

@[expose] public section

noncomputable section

open Idealize.ShloMosaic Idealize.ShloMosaic.TcCoe Idealize.SL.Sem

namespace Cert.Gcn

open Cert.KernelIdeal Cert.KernelIdeal.Gen

/-- Column `h` below 128 of the feature matrix is the second sequence against row `h` of the weights. -/
theorem feats_left (s1 s2 : Vec Ideal S10000x128 .f32) (w : Vec Ideal S128x128 .f32) (n : Fin 10000) (h : Fin 128)
    (hh : h.val < 256) :
    feats s1 s2 w (ix2 n (⟨h.val, hh⟩ : Fin 256)) = ∑ k : Fin 128, s2 (ix2 n k) * w (ix2 h k) := by
  unfold feats
  refine (dif_pos (show h.val < 128 from h.isLt)).trans ?_
  pointwise [k0_pay2, k0_pay1]

/-- Column `128 + h` of the feature matrix is the first sequence against row `h` of the weights. -/
theorem feats_right (s1 s2 : Vec Ideal S10000x128 .f32) (w : Vec Ideal S128x128 .f32) (n : Fin 10000) (h : Fin 128)
    (hh : 128 + h.val < 256) :
    feats s1 s2 w (ix2 n (⟨128 + h.val, hh⟩ : Fin 256)) = ∑ k : Fin 128, s1 (ix2 n k) * w (ix2 h k) := by
  unfold feats
  refine (dif_neg (show ¬128 + h.val < 128 by omega)).trans ?_
  have e : (⟨128 + h.val - 128, by omega⟩ : Fin 128) = h := Fin.ext (by show 128 + h.val - 128 = h.val; omega)
  show k0_pay3 w s1 (ix2 n (⟨128 + h.val - 128, _⟩ : Fin 128)) = _
  rw [e]
  pointwise [k0_pay3, k0_pay1]

/-- An entry of the first output block: the activation of a row of the block of `diff` against column `h` of the features. -/
theorem left_apply (d : Vec Ideal S400x10000 .f32) (s1 s2 : Vec Ideal S10000x128 .f32) (w : Vec Ideal S128x128 .f32)
    (b : Vec Ideal S1x256 .f32) (p : Vec Ideal S1x1 .f32) (r : Fin 400) (h : Fin 128) (hh : h.val < 256) :
    k0_pay5 d (feats s1 s2 w) b p (ix2 r h)
      = act (p (ix2 0 0)) ((∑ m : Fin 10000, d (ix2 r m) * ∑ k : Fin 128, s2 (ix2 m k) * w (ix2 h k))
          + b (ix2 0 (⟨h.val, hh⟩ : Fin 256))) := by
  simp only [← feats_left s1 s2 w _ h hh]
  generalize feats s1 s2 w = f
  pointwise [k0_pay5, k0_pay4, act]

/-- An entry of the second output block: the activation of a row of the block of `diff` against column `128 + h` of the
    features. -/
theorem right_apply (d : Vec Ideal S400x10000 .f32) (s1 s2 : Vec Ideal S10000x128 .f32) (w : Vec Ideal S128x128 .f32)
    (b : Vec Ideal S1x256 .f32) (p : Vec Ideal S1x1 .f32) (r : Fin 400) (h : Fin 128) (hh : 128 + h.val < 256) :
    k0_pay6 d (feats s1 s2 w) b p (ix2 r h)
      = act (p (ix2 0 0)) ((∑ m : Fin 10000, d (ix2 r m) * ∑ k : Fin 128, s1 (ix2 m k) * w (ix2 h k))
          + b (ix2 0 (⟨128 + h.val, hh⟩ : Fin 256))) := by
  simp only [← feats_right s1 s2 w _ h hh]
  generalize feats s1 s2 w = f
  pointwise [k0_pay6, k0_pay4, act]

end Cert.Gcn

end
-- ==== Proof.Host.lean ====
/-
  The host's lines around the kernel's region: what the region finds in each array it reads, entry by entry in terms of
  the arguments, and what the two results hold in terms of the two arrays the region leaves.
-/
module

public import proofs.«01_k».proof.Proof.Gen.KernelIdeal.Frame
public import Idealize.ShloMosaic.Lib.Pointwise
public import Idealize.ShloMosaic.Lib.StableHlo.Run

@[expose] public section

noncomputable section

open Idealize.ShloMosaic Idealize.ShloMosaic.TcCoe Idealize.SL.Sem Idealize.ShloMosaic.StableHlo

namespace Cert.Gcn

open Cert.KernelIdeal Cert.KernelIdeal.Gen

variable (m : (ℓ : Loc nD τ sig) → Buf (Elt Ideal) ℓ) (c : Dev nD)

/-- An array of one 10000-by-128 matrix, its leading axis dropped, at an entry. -/
theorem drop_seq (x : Vec Ideal S1x10000x128 .f32) (hc : S1x10000x128.ShapeCasts S10000x128) (n : Fin 10000) (k : Fin 128) :
    shapeCast S10000x128 x hc (ix2 n k) = x (ix3 0 n k) := by
  pointwise

/-- An array of one 10000-by-10000 matrix, its leading axis dropped, at an entry. -/
theorem drop_adj (x : Vec Ideal S1x10000x10000 .f32) (hc : S1x10000x10000.ShapeCasts S10000x10000) (n k : Fin 10000) :
    shapeCast S10000x10000 x hc (ix2 n k) = x (ix3 0 n k) := by
  pointwise

/-- The region finds the first sequence with its leading axis dropped. -/
theorem entry_s1 (n : Fin 10000) (k : Fin 128) :
    (V m c main_v0 : Vec Ideal S10000x128 .f32) (ix2 n k) = m ((c : Thread nD τ).loc main_arg0) (ix3 0 n k) := by
  have e : (V m c main_v0 : Vec Ideal S10000x128 .f32)
      = shapeCast S10000x128 (m ((c : Thread nD τ).loc main_arg0) : Vec Ideal S1x10000x128 .f32) shapeCasts_S1x10000x128_S10000x128 := by
    simp only [V, V0, hostOps0, List.flatten_cons, List.flatten_nil, List.append_nil]
    after_results_simp <;> rfl
  rw [e, drop_seq]

/-- The region finds the second sequence with its leading axis dropped. -/
theorem entry_s2 (n : Fin 10000) (k : Fin 128) :
    (V m c main_v1 : Vec Ideal S10000x128 .f32) (ix2 n k) = m ((c : Thread nD τ).loc main_arg1) (ix3 0 n k) := by
  have e : (V m c main_v1 : Vec Ideal S10000x128 .f32)
      = shapeCast S10000x128 (m ((c : Thread nD τ).loc main_arg1) : Vec Ideal S1x10000x128 .f32) shapeCasts_S1x10000x128_S10000x128 := by
    simp only [V, V0, hostOps0, List.flatten_cons, List.flatten_nil, List.append_nil]
    after_results_simp <;> rfl
  rw [e, drop_seq]

/-- The region finds the diffusion matrix with its leading axis dropped. -/
theorem entry_adj (n k : Fin 10000) :
    (V m c main_v2 : Vec Ideal S10000x10000 .f32) (ix2 n k) = m ((c : Thread nD τ).loc main_arg2) (ix3 0 n k) := by
  have e : (V m c main_v2 : Vec Ideal S10000x10000 .f32)
      = shapeCast S10000x10000 (m ((c : Thread nD τ).loc main_arg2) : Vec Ideal S1x10000x10000 .f32) shapeCasts_S1x10000x10000_S10000x10000 := by
    simp only [V, V0, hostOps0, List.flatten_cons, List.flatten_nil, List.append_nil]
    after_results_simp <;> rfl
  rw [e, drop_adj]

/-- The region finds the bias twice over, as one row. -/
theorem entry_bias : (V m c main_v4 : Vec Ideal S1x256 .f32)
      = shapeCast S1x256 (concatenate S256 0 [⟨S128, (m ((c : Thread nD τ).loc main_arg4) : Vec Ideal S128 .f32)⟩,
          ⟨S128, (m ((c : Thread nD τ).loc main_arg4) : Vec Ideal S128 .f32)⟩] concatenates_S128_S128_S256_d0) shapeCasts_S256_S1x256 := by
  simp only [V, V0, hostOps0, List.flatten_cons, List.flatten_nil, List.append_nil]
  after_results_simp <;> rfl

/-- Its first half is the bias. -/
theorem entry_bias_left (h : Fin 128) (hh : h.val < 256) :
    (V m c main_v4 : Vec Ideal S1x256 .f32) (ix2 0 (⟨h.val, hh⟩ : Fin 256)) = m ((c : Thread nD τ).loc main_arg4) (ix1 h) := by
  rw [entry_bias]
  pointwise

/-- Its second half is the bias. -/
theorem entry_bias_right (h : Fin 128) (hh : 128 + h.val < 256) :
    (V m c main_v4 : Vec Ideal S1x256 .f32) (ix2 0 (⟨128 + h.val, hh⟩ : Fin 256)) = m ((c : Thread nD τ).loc main_arg4) (ix1 h) := by
  rw [entry_bias]
  pointwise

/-- The region finds the slope as a matrix of one entry. -/
theorem entry_slope : (V m c main_v5 : Vec Ideal S1x1 .f32) (ix2 0 0) = m ((c : Thread nD τ).loc main_arg5) (ix1 0) := by
  have e : (V m c main_v5 : Vec Ideal S1x1 .f32)
      = shapeCast S1x1 (m ((c : Thread nD τ).loc main_arg5) : Vec Ideal S1 .f32) shapeCasts_S1_S1x1 := by
    simp only [V, V0, hostOps0, List.flatten_cons, List.flatten_nil, List.append_nil]
    after_results_simp <;> rfl
  rw [e]
  pointwise

/-- No two windows stage the same array. -/
theorem arrRef_injective : Function.Injective (Pipeline.arrRef spec0) := by
  decide

/-- The first result is the first array the region leaves, its leading axis put back. -/
theorem exit_left : (Pipeline.afterTail₀ cfgs (dats m) 0 (V0 m) [hostOps1] c main_v7 : Vec Ideal S1x10000x128 .f32)
      = broadcastInDim S1x10000x128 ![1, 2] bcast_S10000x128_S1x10000x128_1_2
          ((dats m 0 c).arrAt 6 cfg0.N : Vec Ideal S10000x128 .f32) := by
  unfold Pipeline.afterTail₀
  simp only [hostOps1, List.flatten_cons, List.flatten_nil, List.append_nil]
  after_results_simp
  exact congrArg (broadcastInDim S1x10000x128 ![1, 2] bcast_S10000x128_S1x10000x128_1_2)
    (Pipeline.withArrays_arr spec0 arrRef_injective c (V0 m c) (fun w => (dats m 0 c).arrAt w cfg0.N) 6)

/-- The second result is the second array the region leaves, its leading axis put back. -/
theorem exit_right : (Pipeline.afterTail₀ cfgs (dats m) 0 (V0 m) [hostOps1] c main_v8 : Vec Ideal S1x10000x128 .f32)
      = broadcastInDim S1x10000x128 ![1, 2] bcast_S10000x128_S1x10000x128_1_2
          ((dats m 0 c).arrAt 7 cfg0.N : Vec Ideal S10000x128 .f32) := by
  unfold Pipeline.afterTail₀
  simp only [hostOps1, List.flatten_cons, List.flatten_nil, List.append_nil]
  after_results_simp
  exact congrArg (broadcastInDim S1x10000x128 ![1, 2] bcast_S10000x128_S1x10000x128_1_2)
    (Pipeline.withArrays_arr spec0 arrRef_injective c (V0 m c) (fun w => (dats m 0 c).arrAt w cfg0.N) 7)

end Cert.Gcn

end
-- ==== Proof.Array.lean ====
/-
  What the two arrays the region writes hold when it ends. The windows other than `diff`'s read a whole array at every
  point, so the scratch holds one and the same feature matrix after each point (by induction on the point), and point `t`
  writes back rows `400 t` to `400 t + 399` of the layer. The 25 row blocks cover the array.
-/
module

public import proofs.«01_k».proof.Proof.Values
public import proofs.«01_k».proof.Proof.Host

@[expose] public section

noncomputable section

open Idealize.ShloMosaic Idealize.ShloMosaic.TcCoe Idealize.SL.Sem
open Idealize.ShloMosaic.Pipeline (Dat)

namespace Cert.Gcn

open Cert.KernelIdeal Cert.KernelIdeal.Gen

variable (m : (ℓ : Loc nD τ sig) → Buf (Elt Ideal) ℓ) (c : Dev nD)

/-! ## The blocks a point reads -/

/-- The window of the first sequence reads the whole array at every point. -/
theorem iblk_s1 (t : Fin cfg0.N) : (iblk m c 1 t : Vec Ideal S10000x128 .f32) = V m c main_v0 := by
  have hz : (fun a => win0_1.index t a * main_v0.ty.shape.size a) = fun _ => 0 :=
    funext fun a => (congrArg (· * _) (by fin_cases a <;> rfl : win0_1.index t a = 0)).trans (Nat.zero_mul _)
  exact Memref.read_access_unit_zero (Elt Ideal) main_v0 hz (fun a => by rw [congrFun hz a]; simp) (V m c main_v0)

/-- The window of the second sequence reads the whole array at every point. -/
theorem iblk_s2 (t : Fin cfg0.N) : (iblk m c 2 t : Vec Ideal S10000x128 .f32) = V m c main_v1 := by
  have hz : (fun a => win0_2.index t a * main_v1.ty.shape.size a) = fun _ => 0 :=
    funext fun a => (congrArg (· * _) (by fin_cases a <;> rfl : win0_2.index t a = 0)).trans (Nat.zero_mul _)
  exact Memref.read_access_unit_zero (Elt Ideal) main_v1 hz (fun a => by rw [congrFun hz a]; simp) (V m c main_v1)

/-- The window of the weights reads the whole array at every point. -/
theorem iblk_w (t : Fin cfg0.N) : (iblk m c 3 t : Vec Ideal S128x128 .f32) = m ((c : Thread nD τ).loc main_arg3) := by
  have hz : (fun a => win0_3.index t a * main_arg3.ty.shape.size a) = fun _ => 0 :=
    funext fun a => (congrArg (· * _) (by fin_cases a <;> rfl : win0_3.index t a = 0)).trans (Nat.zero_mul _)
  exact (Memref.read_access_unit_zero (Elt Ideal) main_arg3 hz (fun a => by rw [congrFun hz a]; simp) (V m c main_arg3)).trans
    (V_main_arg3 m c)

/-- The window of the bias row reads the whole array at every point. -/
theorem iblk_b (t : Fin cfg0.N) : (iblk m c 4 t : Vec Ideal S1x256 .f32) = V m c main_v4 := by
  have hz : (fun a => win0_4.index t a * main_v4.ty.shape.size a) = fun _ => 0 :=
    funext fun a => (congrArg (· * _) (by fin_cases a <;> rfl : win0_4.index t a = 0)).trans (Nat.zero_mul _)
  exact Memref.read_access_unit_zero (Elt Ideal) main_v4 hz (fun a => by rw [congrFun hz a]; simp) (V m c main_v4)

/-- The window of the slope reads the whole array at every point. -/
theorem iblk_p (t : Fin cfg0.N) : (iblk m c 5 t : Vec Ideal S1x1 .f32) = V m c main_v5 := by
  have hz : (fun a => win0_5.index t a * main_v5.ty.shape.size a) = fun _ => 0 :=
    funext fun a => (congrArg (· * _) (by fin_cases a <;> rfl : win0_5.index t a = 0)).trans (Nat.zero_mul _)
  exact Memref.read_access_unit_zero (Elt Ideal) main_v5 hz (fun a => by rw [congrFun hz a]; simp) (V m c main_v5)

/-- Point `t` takes row block `t` and column block 0, of `diff` and of both results. -/
theorem row_blocks : ∀ t : Fin cfg0.N, (win0_0.index t 0 = t.val ∧ win0_0.index t 1 = 0)
    ∧ (win0_6.index t 0 = t.val ∧ win0_6.index t 1 = 0) ∧ (win0_7.index t 0 = t.val ∧ win0_7.index t 1 = 0) :=
  (by decide +kernel : ∀ t : Fin grid0.N, (win0_0.index t 0 = t.val ∧ win0_0.index t 1 = 0)
    ∧ (win0_6.index t 0 = t.val ∧ win0_6.index t 1 = 0) ∧ (win0_7.index t 0 = t.val ∧ win0_7.index t 1 = 0))

/-- Row `r` of block `t` is a row of the array. -/
theorem row_lt (t : Fin cfg0.N) (r : Fin 400) : 400 * t.val + r.val < 10000 := by
  have hN : cfg0.N = 25 := N_0
  have := t.isLt
  omega

/-- Row `r` of point `t`'s block of `diff` is row `400 t + r` of the diffusion matrix. -/
theorem iblk_adj (t : Fin cfg0.N) (r : Fin 400) (k : Fin 10000) :
    (iblk m c 0 t : Vec Ideal S400x10000 .f32) (ix2 r k)
      = m ((c : Thread nD τ).loc main_arg2) (ix3 0 (⟨400 * t.val + r.val, row_lt t r⟩ : Fin 10000) k) := by
  rw [← entry_adj m c]
  obtain ⟨⟨e0, e1⟩, -⟩ := row_blocks t
  unfold iblk
  rw [View.read_apply]
  show V m c main_v2 _ = V m c main_v2 _
  refine congrArg (V m c main_v2) (funext fun a => Fin.ext ?_)
  match a with
  | ⟨0, _⟩ => show win0_0.index t 0 * 400 + 1 * r.val = 400 * t.val + r.val; rw [e0]; omega
  | ⟨1, _⟩ => show win0_0.index t 1 * 10000 + 1 * k.val = k.val; rw [e1]; omega

/-! ## What a point leaves -/

/-- The feature matrix of device `c`'s arguments. -/
abbrev featsOf : Vec Ideal S10000x256 .bf16 :=
  feats (V m c main_v0 : Vec Ideal S10000x128 .f32) (V m c main_v1 : Vec Ideal S10000x128 .f32)
    (m ((c : Thread nD τ).loc main_arg3) : Vec Ideal S128x128 .f32)

/-- After every point the scratch holds the feature matrix: the first point fills it, no other writes it. -/
theorem scratch_eq : ∀ (n : ℕ) (h : n < cfg0.N), (outsAt0 m c n h).2.2 = featsOf m c
  | 0, h => by
    rw [outsAt0_A m c ⟨0, h⟩ rfl]
    dsimp only
    rw [scratch_A, iblk_s1, iblk_s2, iblk_w]
  | n + 1, h => by
    have hN : cfg0.N = 25 := N_0
    have hB : ¬(⟨n + 1, h⟩ : Fin cfg0.N).val % 25 = 0 := by dsimp only; omega
    rw [outsAt0_B m c ⟨n + 1, h⟩ hB]
    exact scratch_eq n _

/-- After point `t` the two output blocks are the two halves computed from `t`'s block of `diff` and the feature matrix. -/
theorem outs_eq (t : Fin cfg0.N) :
    (outsAt0 m c t.val t.isLt).1 = k0_pay5 (iblk m c 0 t : Vec Ideal S400x10000 .f32) (featsOf m c)
        (V m c main_v4 : Vec Ideal S1x256 .f32) (V m c main_v5 : Vec Ideal S1x1 .f32)
      ∧ (outsAt0 m c t.val t.isLt).2.1 = k0_pay6 (iblk m c 0 t : Vec Ideal S400x10000 .f32) (featsOf m c)
        (V m c main_v4 : Vec Ideal S1x256 .f32) (V m c main_v5 : Vec Ideal S1x1 .f32) := by
  by_cases h0 : t.val % 25 = 0
  · rw [outsAt0_A m c t h0]
    dsimp only
    rw [block6_A, block7_A, iblk_s1, iblk_s2, iblk_w, iblk_b, iblk_p]
    exact ⟨rfl, rfl⟩
  · rw [outsAt0_B m c t h0]
    dsimp only
    rw [block6_B, block7_B, scratch_eq, iblk_b, iblk_p]
    exact ⟨rfl, rfl⟩

/-- The layer of the sequence `x`, under device `c`'s other arguments. -/
abbrev layerOf (x : FVec Ideal S1x10000x128 .f32) (n : Fin 10000) (h : Fin 128) : EReal :=
  layer x (m ((c : Thread nD τ).loc main_arg2)) (m ((c : Thread nD τ).loc main_arg3)) (m ((c : Thread nD τ).loc main_arg4))
    (m ((c : Thread nD τ).loc main_arg5)) n h

/-- One entry computed from a row of `diff`, a sequence, a bias and a slope is the layer's, when those are the layer's. -/
theorem layer_of_rows {x : FVec Ideal S1x10000x128 .f32} {adj : FVec Ideal S1x10000x10000 .f32} {w : FVec Ideal S128x128 .f32}
    {bias : FVec Ideal S128 .f32} {slope : FVec Ideal S1 .f32} {n : Fin 10000} {h : Fin 128} {d : Fin 10000 → EReal}
    {s : FVec Ideal S10000x128 .f32} {b p : EReal} (hd : ∀ k, d k = adj (ix3 0 n k))
    (hs : ∀ k l, s (ix2 k l) = x (ix3 0 k l)) (hb : b = bias (ix1 h)) (hp : p = slope (ix1 0)) :
    act p ((∑ k : Fin 10000, d k * ∑ l : Fin 128, s (ix2 k l) * w (ix2 h l)) + b) = layer x adj w bias slope n h := by
  subst hb hp
  unfold layer
  simp only [hd, hs]

/-- Row `r` of the first output block after point `t` is row `400 t + r` of the layer of the second sequence. -/
theorem left_row (t : Fin cfg0.N) (r : Fin 400) (h : Fin 128) :
    (outsAt0 m c t.val t.isLt).1 (ix2 r h)
      = layerOf m c (m ((c : Thread nD τ).loc main_arg1)) ⟨400 * t.val + r.val, row_lt t r⟩ h := by
  rw [(outs_eq m c t).1, left_apply _ _ _ _ _ _ r h (by have := h.isLt; omega)]
  exact layer_of_rows (iblk_adj m c t r) (entry_s2 m c) (entry_bias_left m c h _) (entry_slope m c)

/-- Row `r` of the second output block after point `t` is row `400 t + r` of the layer of the first sequence. -/
theorem right_row (t : Fin cfg0.N) (r : Fin 400) (h : Fin 128) :
    (outsAt0 m c t.val t.isLt).2.1 (ix2 r h)
      = layerOf m c (m ((c : Thread nD τ).loc main_arg0)) ⟨400 * t.val + r.val, row_lt t r⟩ h := by
  rw [(outs_eq m c t).2, right_apply _ _ _ _ _ _ r h (by have := h.isLt; omega)]
  exact layer_of_rows (iblk_adj m c t r) (entry_s1 m c) (entry_bias_right m c h _) (entry_slope m c)

/-! ## The arrays -/

/-- The array the first output window writes: the layer of the second sequence. -/
def left : Buf (Elt Ideal) ((c : Thread nD τ).loc main_v6_0) :=
  fun i : S10000x128.Idx => layerOf m c (m ((c : Thread nD τ).loc main_arg1)) (i 0) (i 1)

/-- The array the second output window writes: the layer of the first sequence. -/
def right : Buf (Elt Ideal) ((c : Thread nD τ).loc main_v6_1) :=
  fun i : S10000x128.Idx => layerOf m c (m ((c : Thread nD τ).loc main_arg0)) (i 0) (i 1)

/-- What point `t` writes back to the first array is its block of `left`. -/
theorem flushed_left (t : Fin cfg0.N) :
    (dats m 0 c).flushed 6 t = ((cfg0.win 6).blk t).view.read (Elt Ideal) (left m c) := by
  show (cfg0.win 6).cut (grid0.coords t) ((dats m 0 c).after 6 t) = _
  rw [after0_6]
  obtain ⟨-, ⟨e0, e1⟩, -⟩ := row_blocks t
  funext y
  refine Eq.trans (?_ : _ = (outsAt0 m c t.val t.isLt).1 (ix2 (n0 := 400) (n1 := 128) (y 0) (y 1))) ?_
  · exact congrArg (outsAt0 m c t.val t.isLt).1 (eq_ix2 (n0 := 400) (n1 := 128) y)
  · refine (left_row m c t (y 0) (y 1)).trans ?_
    show layerOf m c _ _ _ = layerOf m c _ (((cfg0.win 6).blk t).view.emb y 0) (((cfg0.win 6).blk t).view.emb y 1)
    refine congrArg₂ (layerOf m c _) (Fin.ext ?_) (Fin.ext ?_)
    · show 400 * t.val + (y 0).val = win0_6.index t 0 * 400 + 1 * (y 0).val
      rw [e0]; omega
    · show (y 1).val = win0_6.index t 1 * 128 + 1 * (y 1).val
      rw [e1]; omega

/-- What point `t` writes back to the second array is its block of `right`. -/
theorem flushed_right (t : Fin cfg0.N) :
    (dats m 0 c).flushed 7 t = ((cfg0.win 7).blk t).view.read (Elt Ideal) (right m c) := by
  show (cfg0.win 7).cut (grid0.coords t) ((dats m 0 c).after 7 t) = _
  rw [after0_7]
  obtain ⟨-, -, ⟨e0, e1⟩⟩ := row_blocks t
  funext y
  refine Eq.trans (?_ : _ = (outsAt0 m c t.val t.isLt).2.1 (ix2 (n0 := 400) (n1 := 128) (y 0) (y 1))) ?_
  · exact congrArg (outsAt0 m c t.val t.isLt).2.1 (eq_ix2 (n0 := 400) (n1 := 128) y)
  · refine (right_row m c t (y 0) (y 1)).trans ?_
    show layerOf m c _ _ _ = layerOf m c _ (((cfg0.win 7).blk t).view.emb y 0) (((cfg0.win 7).blk t).view.emb y 1)
    refine congrArg₂ (layerOf m c _) (Fin.ext ?_) (Fin.ext ?_)
    · show 400 * t.val + (y 0).val = win0_7.index t 0 * 400 + 1 * (y 0).val
      rw [e0]; omega
    · show (y 1).val = win0_7.index t 1 * 128 + 1 * (y 1).val
      rw [e1]; omega

/-- The point whose row block holds row `n`. -/
def pointOf (n : Fin 10000) : Fin cfg0.N := ⟨n.val / 400, by have hN : cfg0.N = 25 := N_0; have := n.isLt; omega⟩

/-- The first array ends holding the layer of the second sequence. -/
theorem final_left : (dats m 0 c).arrAt 6 cfg0.N = left m c :=
  (dats m 0 c).arrAt_eq_of_cover 6 (left m c) (fun t _ => flushed_left m c t) fun i => ⟨pointOf (i 0), flush0_6 _, by
    show i ∈ ((View.whole main_v6_0).slice (win0_6.rect (pointOf (i 0)))).set
    obtain ⟨-, ⟨e0, e1⟩, -⟩ := row_blocks (pointOf (i 0))
    have h0 : (i 0).val < 10000 := (i 0).isLt
    have h1 : (i 1).val < 128 := (i 1).isLt
    have hp : (pointOf (i 0)).val = (i 0).val / 400 := rfl
    rw [View.set_slice_whole, Rect.mem_set_unit]
    intro a
    match a with
    | ⟨0, _⟩ =>
      show win0_6.index (pointOf (i 0)) 0 * 400 ≤ (i 0).val ∧ (i 0).val < win0_6.index (pointOf (i 0)) 0 * 400 + 400
      rw [e0]; omega
    | ⟨1, _⟩ =>
      show win0_6.index (pointOf (i 0)) 1 * 128 ≤ (i 1).val ∧ (i 1).val < win0_6.index (pointOf (i 0)) 1 * 128 + 128
      rw [e1]; omega⟩

/-- The second array ends holding the layer of the first sequence. -/
theorem final_right : (dats m 0 c).arrAt 7 cfg0.N = right m c :=
  (dats m 0 c).arrAt_eq_of_cover 7 (right m c) (fun t _ => flushed_right m c t) fun i => ⟨pointOf (i 0), flush0_7 _, by
    show i ∈ ((View.whole main_v6_1).slice (win0_7.rect (pointOf (i 0)))).set
    obtain ⟨-, -, ⟨e0, e1⟩⟩ := row_blocks (pointOf (i 0))
    have h0 : (i 0).val < 10000 := (i 0).isLt
    have h1 : (i 1).val < 128 := (i 1).isLt
    have hp : (pointOf (i 0)).val = (i 0).val / 400 := rfl
    rw [View.set_slice_whole, Rect.mem_set_unit]
    intro a
    match a with
    | ⟨0, _⟩ =>
      show win0_7.index (pointOf (i 0)) 0 * 400 ≤ (i 0).val ∧ (i 0).val < win0_7.index (pointOf (i 0)) 0 * 400 + 400
      rw [e0]; omega
    | ⟨1, _⟩ =>
      show win0_7.index (pointOf (i 0)) 1 * 128 ≤ (i 1).val ∧ (i 1).val < win0_7.index (pointOf (i 0)) 1 * 128 + 128
      rw [e1]; omega⟩

end Cert.Gcn

end
-- ==== Proof.KernelRun.lean ====
/-
  The idealized kernel's run, in the terms of its arguments: the host's last lines put the leading axis back on the two
  arrays the region leaves, so its results are the layers of the two sequences.
-/
module

public import proofs.«01_k».proof.Proof.Array

@[expose] public section

noncomputable section

open Idealize.ShloMosaic Idealize.ShloMosaic.TcCoe Idealize.SL.Sem

namespace Cert.Gcn

open Cert.KernelIdeal Cert.KernelIdeal.Gen

/-- A matrix holding the layer's entries, given a leading axis of size one, is the layer's array. -/
theorem lift_layer (x : FVec Ideal S1x10000x128 .f32) (adj : FVec Ideal S1x10000x10000 .f32) (w : FVec Ideal S128x128 .f32)
    (b : FVec Ideal S128 .f32) (a : FVec Ideal S1 .f32) :
    broadcastInDim S1x10000x128 ![1, 2] bcast_S10000x128_S1x10000x128_1_2
        ((fun i => layer x adj w b a (i 0) (i 1)) : FVec Ideal S10000x128 .f32)
      = layerArr x adj w b a := by
  funext i
  obtain ⟨n, h, rfl⟩ : ∃ (n : Fin 10000) (h : Fin 128), i = ix3 (0 : Fin 1) n h :=
    ⟨i 1, i 2, (eq_ix3 i).trans (congrArg (fun q => ix3 q (i 1) (i 2)) (Subsingleton.elim _ _))⟩
  pointwise [layerArr]

variable (m : (ℓ : Loc nD τ sig) → Buf (Elt Ideal) ℓ) (ρ : Dev nD → PrngReg)

/-- The idealized kernel runs, its first result the layer of the second sequence and its second the layer of the first. -/
theorem kernel_values : θ_run defs (onTc (τ := τ) (main (F := Ideal))) ⟨m, fun _ => 0, ρ⟩ fun r => ∀ c : Dev nD,
      r.2.mem ((c.tc : Thread nD τ).loc main_v7)
        = layerArr (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_v8)
        = layerArr (m ((c.tc : Thread nD τ).loc main_arg0)) (m ((c.tc : Thread nD τ).loc main_arg2))
            (m ((c.tc : Thread nD τ).loc main_arg3)) (m ((c.tc : Thread nD τ).loc main_arg4)) (m ((c.tc : Thread nD τ).loc main_arg5)) :=
  (θ_run defs _ _).mono (fun r h c =>
      ⟨((h c).2 main_v7 (Pipeline.mem_restRefs_of main_v7 (by decide) (by decide))).trans
        ((exit_left m c).trans ((congrArg _ (final_left m c)).trans (lift_layer _ _ _ _ _))),
       ((h c).2 main_v8 (Pipeline.mem_restRefs_of main_v8 (by decide) (by decide))).trans
        ((exit_right m c).trans ((congrArg _ (final_right m c)).trans (lift_layer _ _ _ _ _)))⟩)
    (run_main m ρ)

end Cert.Gcn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefValue
public import proofs.«01_k».proof.Proof.KernelRun
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments unchanged and every semaphore at zero. -/
theorem reference_frame : Cert.quiescent_ReferenceIdeal (hReferenceIdeal := Cert.ReferenceIdeal.Gen.facts) := fun m g _ =>
  (θ_run Cert.ReferenceIdeal.defs _ _).mono
    (fun r h => ⟨fun c => (h c).2.2, Idealize.ShloMosaic.sem_eq_zero_of_no_sems (by decide) r.2⟩) (Cert.Gcn.ref_run m g)

/-- The idealized kernel and the reference end with equal results from equal arguments. -/
theorem values_agree : Cert.algebraic_KernelIdeal_ReferenceIdeal (hKernelIdeal := Cert.KernelIdeal.Gen.facts)
    (hReferenceIdeal := Cert.ReferenceIdeal.Gen.facts) := fun m g m' g' _ hagree =>
  ⟨_, _,
    (θ_run Cert.KernelIdeal.defs _ _).mono (fun r h c => ⟨(h.1 c).1, (h.1 c).2, h.2 c⟩)
      (θ_run_and (Cert.Gcn.kernel_values m g) (Cert.KernelIdeal.Gen.unchanged m g)),
    (θ_run Cert.ReferenceIdeal.defs _ _).mono (fun r h c => by
        obtain ⟨a0, a1, a2, a3, a4, a5, -⟩ := hagree c
        refine ⟨(h c).1.trans ?_, (h c).2.1.trans ?_, (h c).2.2⟩
        · rw [a1, a2, a3, a4, a5]
        · rw [a0, a2, a3, a4, a5])
      (Cert.Gcn.ref_run m' g')⟩

/-- Every claim of the certificate. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_frame, trivial, values_agree⟩

end Cert.Proof

end
